-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x255x76x76 : Shape := ⟨4, ![16, 255, 76, 76]⟩
abbrev S3x2 : Shape := ⟨2, ![3, 2]⟩
abbrev S_ : Shape := ⟨0, ![]⟩
abbrev S255 : Shape := ⟨1, ![255]⟩
abbrev S255x1 : Shape := ⟨2, ![255, 1]⟩
abbrev S255x2 : Shape := ⟨2, ![255, 2]⟩
abbrev S1x255 : Shape := ⟨2, ![1, 255]⟩
abbrev S5x255 : Shape := ⟨2, ![5, 255]⟩
abbrev S5x1x255 : Shape := ⟨3, ![5, 1, 255]⟩
abbrev S5x16x255 : Shape := ⟨3, ![5, 16, 255]⟩
abbrev S5776 : Shape := ⟨1, ![5776]⟩
abbrev S5776x1 : Shape := ⟨2, ![5776, 1]⟩
abbrev S5776x2 : Shape := ⟨2, ![5776, 2]⟩
abbrev S5776x1x2 : Shape := ⟨3, ![5776, 1, 2]⟩
abbrev S5776x16x2 : Shape := ⟨3, ![5776, 16, 2]⟩
abbrev S76x76x16x255 : Shape := ⟨4, ![76, 76, 16, 255]⟩
abbrev S5776x16x255 : Shape := ⟨3, ![5776, 16, 255]⟩
abbrev S16x3x5776x85 : Shape := ⟨4, ![16, 3, 5776, 85]⟩
abbrev S152x16x255 : Shape := ⟨3, ![152, 16, 255]⟩
abbrev S152x16x2 : Shape := ⟨3, ![152, 16, 2]⟩
abbrev S16x3x152x85 : Shape := ⟨4, ![16, 3, 152, 85]⟩
abbrev S1x16x255 : Shape := ⟨3, ![1, 16, 255]⟩
abbrev S16x255 : Shape := ⟨2, ![16, 255]⟩
abbrev S152x16x1 : Shape := ⟨3, ![152, 16, 1]⟩
abbrev S152x16x85 : Shape := ⟨3, ![152, 16, 85]⟩
abbrev S16x152x85 : Shape := ⟨3, ![16, 152, 85]⟩
abbrev S16x1x152x85 : Shape := ⟨4, ![16, 1, 152, 85]⟩
abbrev S16x17328x85 : Shape := ⟨3, ![16, 17328, 85]⟩

abbrev nBuf : Space → Nat
  | .hbm => 177
  | .vmem => 7
  | .smem => 0
  | _ => 0

abbrev hbmTy0_0 (i : Nat) : BufTy := match i % 128 with
  | 0 => ⟨S16x255x76x76, .f32⟩
  | 1 => ⟨S3x2, .f32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i1⟩
  | 12 => ⟨S_, .i1⟩
  | 13 => ⟨S_, .i32⟩
  | 14 => ⟨S_, .i32⟩
  | 15 => ⟨S_, .i32⟩
  | 16 => ⟨S_, .f32⟩
  | 17 => ⟨S255, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S255, .i32⟩
  | 25 => ⟨S255, .i32⟩
  | 26 => ⟨S_, .i32⟩
  | 27 => ⟨S255, .i32⟩
  | 28 => ⟨S255, .i1⟩
  | 29 => ⟨S_, .i32⟩
  | 30 => ⟨S255, .i32⟩
  | 31 => ⟨S255, .i1⟩
  | 32 => ⟨S_, .i32⟩
  | 33 => ⟨S_, .i1⟩
  | 34 => ⟨S255, .i1⟩
  | 35 => ⟨S255, .i1⟩
  | 36 => ⟨S255, .i1⟩
  | 37 => ⟨S255, .i32⟩
  | 38 => ⟨S255, .i32⟩
  | 39 => ⟨S255, .i32⟩
  | 40 => ⟨S_, .i32⟩
  | 41 => ⟨S_, .i32⟩
  | 42 => ⟨S255, .i32⟩
  | 43 => ⟨S255, .i32⟩
  | 44 => ⟨S255, .i32⟩
  | 45 => ⟨S_, .i32⟩
  | 46 => ⟨S255, .i32⟩
  | 47 => ⟨S255, .i1⟩
  | 48 => ⟨S255, .i32⟩
  | 49 => ⟨S255, .i32⟩
  | 50 => ⟨S_, .i32⟩
  | 51 => ⟨S255, .i32⟩
  | 52 => ⟨S255, .i1⟩
  | 53 => ⟨S255, .i1⟩
  | 54 => ⟨S_, .i32⟩
  | 55 => ⟨S255, .i32⟩
  | 56 => ⟨S255, .i32⟩
  | 57 => ⟨S255, .i32⟩
  | 58 => ⟨S_, .i32⟩
  | 59 => ⟨S255, .i32⟩
  | 60 => ⟨S255, .i1⟩
  | 61 => ⟨S_, .i32⟩
  | 62 => ⟨S255, .i32⟩
  | 63 => ⟨S255, .i32⟩
  | 64 => ⟨S255, .i32⟩
  | 65 => ⟨S255x1, .i32⟩
  | 66 => ⟨S255x2, .f32⟩
  | 67 => ⟨S_, .i32⟩
  | 68 => ⟨S255, .i32⟩
  | 69 => ⟨S255, .i1⟩
  | 70 => ⟨S_, .i32⟩
  | 71 => ⟨S255, .i32⟩
  | 72 => ⟨S255, .i1⟩
  | 73 => ⟨S255, .i1⟩
  | 74 => ⟨S_, .f32⟩
  | 75 => ⟨S_, .f32⟩
  | 76 => ⟨S255, .f32⟩
  | 77 => ⟨S255, .f32⟩
  | 78 => ⟨S255, .f32⟩
  | 79 => ⟨S_, .i32⟩
  | 80 => ⟨S255, .i32⟩
  | 81 => ⟨S255, .i1⟩
  | 82 => ⟨S_, .f32⟩
  | 83 => ⟨S255, .f32⟩
  | 84 => ⟨S255, .f32⟩
  | 85 => ⟨S255, .f32⟩
  | 86 => ⟨S_, .f32⟩
  | 87 => ⟨S255, .f32⟩
  | 88 => ⟨S255, .f32⟩
  | 89 => ⟨S_, .i32⟩
  | 90 => ⟨S255, .i32⟩
  | 91 => ⟨S255, .i1⟩
  | 92 => ⟨S255x1, .f32⟩
  | 93 => ⟨S255, .f32⟩
  | 94 => ⟨S_, .i32⟩
  | 95 => ⟨S255, .i32⟩
  | 96 => ⟨S255, .i1⟩
  | 97 => ⟨S255x1, .f32⟩
  | 98 => ⟨S255, .f32⟩
  | 99 => ⟨S_, .f32⟩
  | 100 => ⟨S255, .f32⟩
  | 101 => ⟨S255, .f32⟩
  | 102 => ⟨S255, .f32⟩
  | 103 => ⟨S_, .i32⟩
  | 104 => ⟨S255, .i32⟩
  | 105 => ⟨S255, .i1⟩
  | 106 => ⟨S_, .f32⟩
  | 107 => ⟨S255, .f32⟩
  | 108 => ⟨S255, .f32⟩
  | 109 => ⟨S255, .f32⟩
  | 110 => ⟨S_, .i32⟩
  | 111 => ⟨S255, .i32⟩
  | 112 => ⟨S255, .i1⟩
  | 113 => ⟨S_, .f32⟩
  | 114 => ⟨S255, .f32⟩
  | 115 => ⟨S255, .f32⟩
  | 116 => ⟨S255, .f32⟩
  | 117 => ⟨S1x255, .f32⟩
  | 118 => ⟨S1x255, .f32⟩
  | 119 => ⟨S1x255, .f32⟩
  | 120 => ⟨S1x255, .f32⟩
  | 121 => ⟨S1x255, .f32⟩
  | 122 => ⟨S5x255, .f32⟩
  | 123 => ⟨S5x1x255, .f32⟩
  | 124 => ⟨S5x16x255, .f32⟩
  | 125 => ⟨S5776, .i32⟩
  | 126 => ⟨S_, .i32⟩
  | 127 => ⟨S_, .i32⟩
  | _ => ⟨S16x255x76x76, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S5776, .i32⟩
  | 5 => ⟨S5776, .i32⟩
  | 6 => ⟨S_, .i32⟩
  | 7 => ⟨S5776, .i32⟩
  | 8 => ⟨S5776, .i1⟩
  | 9 => ⟨S_, .i32⟩
  | 10 => ⟨S5776, .i32⟩
  | 11 => ⟨S5776, .i1⟩
  | 12 => ⟨S_, .i32⟩
  | 13 => ⟨S_, .i1⟩
  | 14 => ⟨S5776, .i1⟩
  | 15 => ⟨S5776, .i1⟩
  | 16 => ⟨S5776, .i1⟩
  | 17 => ⟨S5776, .i32⟩
  | 18 => ⟨S5776, .i32⟩
  | 19 => ⟨S5776, .i32⟩
  | 20 => ⟨S5776, .f32⟩
  | 21 => ⟨S_, .i32⟩
  | 22 => ⟨S_, .i32⟩
  | 23 => ⟨S5776, .i32⟩
  | 24 => ⟨S5776, .i32⟩
  | 25 => ⟨S5776, .i32⟩
  | 26 => ⟨S_, .i32⟩
  | 27 => ⟨S5776, .i32⟩
  | 28 => ⟨S5776, .i1⟩
  | 29 => ⟨S5776, .i32⟩
  | 30 => ⟨S5776, .i32⟩
  | 31 => ⟨S_, .i32⟩
  | 32 => ⟨S5776, .i32⟩
  | 33 => ⟨S5776, .i1⟩
  | 34 => ⟨S5776, .i1⟩
  | 35 => ⟨S_, .i32⟩
  | 36 => ⟨S5776, .i32⟩
  | 37 => ⟨S5776, .i32⟩
  | 38 => ⟨S5776, .i32⟩
  | 39 => ⟨S5776, .f32⟩
  | 40 => ⟨S5776x1, .f32⟩
  | 41 => ⟨S5776x1, .f32⟩
  | 42 => ⟨S5776x2, .f32⟩
  | 43 => ⟨S5776x1x2, .f32⟩
  | 44 => ⟨S5776x16x2, .f32⟩
  | 45 => ⟨S76x76x16x255, .f32⟩
  | 46 => ⟨S5776x16x255, .f32⟩
  | 47 => ⟨S16x3x5776x85, .f32⟩
  | 48 => ⟨S16x17328x85, .f32⟩
  | _ => ⟨S16x255x76x76, .f32⟩

abbrev hbmTy (i : Nat) : BufTy := match i / 128 with
  | 0 => hbmTy0_0 i
  | 1 => hbmTy0_1 i
  | _ => ⟨S16x255x76x76, .f32⟩

abbrev bufTy : (tb : Table) → Fin (tcTables nBuf tb) → BufTy
  | .hbm, ⟨i, _⟩ => hbmTy i
  | .local _ .vmem, ⟨0, _⟩ => ⟨S152x16x255, .f32⟩
  | .local _ .vmem, ⟨1, _⟩ => ⟨S152x16x255, .f32⟩
  | .local _ .vmem, ⟨2, _⟩ => ⟨S5x16x255, .f32⟩
  | .local _ .vmem, ⟨3, _⟩ => ⟨S152x16x2, .f32⟩
  | .local _ .vmem, ⟨4, _⟩ => ⟨S152x16x2, .f32⟩
  | .local _ .vmem, ⟨5, _⟩ => ⟨S16x3x152x85, .f32⟩
  | .local _ .vmem, ⟨6, _⟩ => ⟨S16x3x152x85, .f32⟩
  | _, _ => ⟨S16x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c : Ref sig .tc := ⟨.hbm, 10, rfl⟩
abbrev main_call0_v6 : Ref sig .tc := ⟨.hbm, 11, rfl⟩
abbrev main_call0_v7 : Ref sig .tc := ⟨.hbm, 12, rfl⟩
abbrev main_call0_c_0 : Ref sig .tc := ⟨.hbm, 13, rfl⟩
abbrev main_call0_v8 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_1 : Ref sig .tc := ⟨.hbm, 26, rfl⟩
abbrev main_call1_v5 : Ref sig .tc := ⟨.hbm, 27, rfl⟩
abbrev main_call1_v6 : Ref sig .tc := ⟨.hbm, 28, rfl⟩
abbrev main_call1_c_2 : Ref sig .tc := ⟨.hbm, 29, rfl⟩
abbrev main_call1_v7 : Ref sig .tc := ⟨.hbm, 30, rfl⟩
abbrev main_call1_v8 : Ref sig .tc := ⟨.hbm, 31, rfl⟩
abbrev main_call1_c_3 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_v3 : Ref sig .tc := ⟨.hbm, 39, rfl⟩
abbrev main_c_1 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v4 : Ref sig .tc := ⟨.hbm, 57, rfl⟩
abbrev main_c_2 : Ref sig .tc := ⟨.hbm, 58, rfl⟩
abbrev main_v5 : Ref sig .tc := ⟨.hbm, 59, rfl⟩
abbrev main_v6 : Ref sig .tc := ⟨.hbm, 60, rfl⟩
abbrev main_c_3 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_c_4 : Ref sig .tc := ⟨.hbm, 67, rfl⟩
abbrev main_v12 : Ref sig .tc := ⟨.hbm, 68, rfl⟩
abbrev main_v13 : Ref sig .tc := ⟨.hbm, 69, rfl⟩
abbrev main_c_5 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_cst : Ref sig .tc := ⟨.hbm, 74, rfl⟩
abbrev main_cst_6 : Ref sig .tc := ⟨.hbm, 75, rfl⟩
abbrev main_call3_v0 : Ref sig .tc := ⟨.hbm, 76, rfl⟩
abbrev main_call3_v1 : Ref sig .tc := ⟨.hbm, 77, rfl⟩
abbrev main_v17 : Ref sig .tc := ⟨.hbm, 78, rfl⟩
abbrev main_c_7 : Ref sig .tc := ⟨.hbm, 79, rfl⟩
abbrev main_v18 : Ref sig .tc := ⟨.hbm, 80, rfl⟩
abbrev main_v19 : Ref sig .tc := ⟨.hbm, 81, rfl⟩
abbrev main_cst_8 : Ref sig .tc := ⟨.hbm, 82, rfl⟩
abbrev main_call4_v0 : Ref sig .tc := ⟨.hbm, 83, rfl⟩
abbrev main_call4_v1 : Ref sig .tc := ⟨.hbm, 84, rfl⟩
abbrev main_v20 : Ref sig .tc := ⟨.hbm, 85, rfl⟩
abbrev main_cst_9 : Ref sig .tc := ⟨.hbm, 86, rfl⟩
abbrev main_call5_v0 : Ref sig .tc := ⟨.hbm, 87, rfl⟩
abbrev main_v21 : Ref sig .tc := ⟨.hbm, 88, rfl⟩
abbrev main_c_10 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_c_11 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_cst_12 : Ref sig .tc := ⟨.hbm, 99, rfl⟩
abbrev main_call6_v0 : Ref sig .tc := ⟨.hbm, 100, rfl⟩
abbrev main_v30 : Ref sig .tc := ⟨.hbm, 101, rfl⟩
abbrev main_v31 : Ref sig .tc := ⟨.hbm, 102, rfl⟩
abbrev main_c_13 : Ref sig .tc := ⟨.hbm, 103, rfl⟩
abbrev main_v32 : Ref sig .tc := ⟨.hbm, 104, rfl⟩
abbrev main_v33 : Ref sig .tc := ⟨.hbm, 105, rfl⟩
abbrev main_cst_14 : Ref sig .tc := ⟨.hbm, 106, rfl⟩
abbrev main_call8_v0 : Ref sig .tc := ⟨.hbm, 107, rfl⟩
abbrev main_call8_v1 : Ref sig .tc := ⟨.hbm, 108, rfl⟩
abbrev main_v34 : Ref sig .tc := ⟨.hbm, 109, rfl⟩
abbrev main_c_15 : Ref sig .tc := ⟨.hbm, 110, rfl⟩
abbrev main_v35 : Ref sig .tc := ⟨.hbm, 111, rfl⟩
abbrev main_v36 : Ref sig .tc := ⟨.hbm, 112, rfl⟩
abbrev main_cst_16 : Ref sig .tc := ⟨.hbm, 113, rfl⟩
abbrev main_call9_v0 : Ref sig .tc := ⟨.hbm, 114, rfl⟩
abbrev main_call9_v1 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_c_17 : Ref sig .tc := ⟨.hbm, 126, rfl⟩
abbrev main_call10_v0 : Ref sig .tc := ⟨.hbm, 127, rfl⟩
abbrev main_call10_c : Ref sig .tc := ⟨.hbm, 128, rfl⟩
abbrev main_call10_v1 : Ref sig .tc := ⟨.hbm, 129, rfl⟩
abbrev main_call10_c_0 : Ref sig .tc := ⟨.hbm, 130, rfl⟩
abbrev main_call10_v2 : Ref sig .tc := ⟨.hbm, 131, rfl⟩
abbrev main_call10_v3 : Ref sig .tc := ⟨.hbm, 132, rfl⟩
abbrev main_call10_v4 : Ref sig .tc := ⟨.hbm, 133, rfl⟩
abbrev main_call10_c_1 : Ref sig .tc := ⟨.hbm, 134, rfl⟩
abbrev main_call10_v5 : Ref sig .tc := ⟨.hbm, 135, rfl⟩
abbrev main_call10_v6 : Ref sig .tc := ⟨.hbm, 136, rfl⟩
abbrev main_call10_c_2 : Ref sig .tc := ⟨.hbm, 137, rfl⟩
abbrev main_call10_v7 : Ref sig .tc := ⟨.hbm, 138, rfl⟩
abbrev main_call10_v8 : Ref sig .tc := ⟨.hbm, 139, rfl⟩
abbrev main_call10_c_3 : Ref sig .tc := ⟨.hbm, 140, rfl⟩
abbrev main_call10_v9 : Ref sig .tc := ⟨.hbm, 141, rfl⟩
abbrev main_call10_v10 : Ref sig .tc := ⟨.hbm, 142, rfl⟩
abbrev main_call10_v11 : Ref sig .tc := ⟨.hbm, 143, rfl⟩
abbrev main_call10_v12 : Ref sig .tc := ⟨.hbm, 144, rfl⟩
abbrev main_call10_v13 : Ref sig .tc := ⟨.hbm, 145, rfl⟩
abbrev main_call10_v14 : Ref sig .tc := ⟨.hbm, 146, rfl⟩
abbrev main_v47 : Ref sig .tc := ⟨.hbm, 147, rfl⟩
abbrev main_v48 : Ref sig .tc := ⟨.hbm, 148, rfl⟩
abbrev main_c_18 : Ref sig .tc := ⟨.hbm, 149, rfl⟩
abbrev main_call11_v0 : Ref sig .tc := ⟨.hbm, 150, rfl⟩
abbrev main_call11_v1 : Ref sig .tc := ⟨.hbm, 151, rfl⟩
abbrev main_call11_v2 : Ref sig .tc := ⟨.hbm, 152, rfl⟩
abbrev main_call11_v3 : Ref sig .tc := ⟨.hbm, 153, rfl⟩
abbrev main_call11_v4 : Ref sig .tc := ⟨.hbm, 154, rfl⟩
abbrev main_call11_v5 : Ref sig .tc := ⟨.hbm, 155, rfl⟩
abbrev main_call11_v6 : Ref sig .tc := ⟨.hbm, 156, rfl⟩
abbrev main_call11_v7 : Ref sig .tc := ⟨.hbm, 157, rfl⟩
abbrev main_call11_v8 : Ref sig .tc := ⟨.hbm, 158, rfl⟩
abbrev main_call11_c : Ref sig .tc := ⟨.hbm, 159, rfl⟩
abbrev main_call11_v9 : Ref sig .tc := ⟨.hbm, 160, rfl⟩
abbrev main_call11_v10 : Ref sig .tc := ⟨.hbm, 161, rfl⟩
abbrev main_call11_v11 : Ref sig .tc := ⟨.hbm, 162, rfl⟩
abbrev main_call11_c_0 : Ref sig .tc := ⟨.hbm, 163, rfl⟩
abbrev main_call11_v12 : Ref sig .tc := ⟨.hbm, 164, rfl⟩
abbrev main_call11_v13 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_v52 : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩
abbrev main_v56 : Ref sig .tc := ⟨.hbm, 173, rfl⟩
abbrev main_v57 : Ref sig .tc := ⟨.hbm, 174, rfl⟩
abbrev main_v58 : Ref sig .tc := ⟨.hbm, 175, rfl⟩
abbrev main_v59 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![38], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S152x16x255 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x16x255 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S152x16x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x3x152x85 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x255x76x76 : Shape := ⟨4, ![16, 255, 76, 76]⟩
abbrev S3x2 : Shape := ⟨2, ![3, 2]⟩
abbrev S_ : Shape := ⟨0, ![]⟩
abbrev S16x3x85x76x76 : Shape := ⟨5, ![16, 3, 85, 76, 76]⟩
abbrev S16x3x76x76x85 : Shape := ⟨5, ![16, 3, 76, 76, 85]⟩
abbrev S76 : Shape := ⟨1, ![76]⟩
abbrev S76x76 : Shape := ⟨2, ![76, 76]⟩
abbrev S16x3x76x76x1 : Shape := ⟨5, ![16, 3, 76, 76, 1]⟩
abbrev S16x3x76x76 : Shape := ⟨4, ![16, 3, 76, 76]⟩
abbrev S1x1x76x76 : Shape := ⟨4, ![1, 1, 76, 76]⟩
abbrev S1x3x1x1x2 : Shape := ⟨5, ![1, 3, 1, 1, 2]⟩
abbrev S16x3x76x76x2 : Shape := ⟨5, ![16, 3, 76, 76, 2]⟩
abbrev S16x3x76x76x80 : Shape := ⟨5, ![16, 3, 76, 76, 80]⟩
abbrev S16x17328x85 : Shape := ⟨3, ![16, 17328, 85]⟩

abbrev nBuf : Space → Nat
  | .hbm => 80
  | .vmem => 0
  | .smem => 0
  | _ => 0

abbrev bufTy : (tb : Table) → Fin (tcTables nBuf tb) → BufTy
  | .hbm, ⟨0, _⟩ => ⟨S16x255x76x76, .f32⟩
  | .hbm, ⟨1, _⟩ => ⟨S3x2, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S16x3x85x76x76, .f32⟩
  | .hbm, ⟨17, _⟩ => ⟨S16x3x76x76x85, .f32⟩
  | .hbm, ⟨18, _⟩ => ⟨S76, .f32⟩
  | .hbm, ⟨19, _⟩ => ⟨S76x76, .f32⟩
  | .hbm, ⟨20, _⟩ => ⟨S76x76, .f32⟩
  | .hbm, ⟨21, _⟩ => ⟨S16x3x76x76x1, .f32⟩
  | .hbm, ⟨22, _⟩ => ⟨S16x3x76x76, .f32⟩
  | .hbm, ⟨23, _⟩ => ⟨S16x3x76x76, .f32⟩
  | .hbm, ⟨24, _⟩ => ⟨S16x3x76x76, .f32⟩
  | .hbm, ⟨25, _⟩ => ⟨S_, .f32⟩
  | .hbm, ⟨26, _⟩ => ⟨S16x3x76x76, .f32⟩
  | .hbm, ⟨27, _⟩ => ⟨S16x3x76x76, .f32⟩
  | .hbm, ⟨28, _⟩ => ⟨S_, .f32⟩
  | .hbm, ⟨29, _⟩ => ⟨S16x3x76x76, .f32⟩
  | .hbm, ⟨30, _⟩ => ⟨S16x3x76x76, .f32⟩
  | .hbm, ⟨31, _⟩ => ⟨S1x1x76x76, .f32⟩
  | .hbm, ⟨32, _⟩ => ⟨S16x3x76x76, .f32⟩
  | .hbm, ⟨33, _⟩ => ⟨S16x3x76x76, .f32⟩
  | .hbm, ⟨34, _⟩ => ⟨S_, .f32⟩
  | .hbm, ⟨35, _⟩ => ⟨S16x3x76x76, .f32⟩
  | .hbm, ⟨36, _⟩ => ⟨S16x3x76x76, .f32⟩
  | .hbm, ⟨37, _⟩ => ⟨S16x3x76x76x1, .f32⟩
  | .hbm, ⟨38, _⟩ => ⟨S16x3x76x76, .f32⟩
  | .hbm, ⟨39, _⟩ => ⟨S16x3x76x76, .f32⟩
  | .hbm, ⟨40, _⟩ => ⟨S16x3x76x76, .f32⟩
  | .hbm, ⟨41, _⟩ => ⟨S_, .f32⟩
  | .hbm, ⟨42, _⟩ => ⟨S16x3x76x76, .f32⟩
  | .hbm, ⟨43, _⟩ => ⟨S16x3x76x76, .f32⟩
  | .hbm, ⟨44, _⟩ => ⟨S_, .f32⟩
  | .hbm, ⟨45, _⟩ => ⟨S16x3x76x76, .f32⟩
  | .hbm, ⟨46, _⟩ => ⟨S16x3x76x76, .f32⟩
  | .hbm, ⟨47, _⟩ => ⟨S1x1x76x76, .f32⟩
  | .hbm, ⟨48, _⟩ => ⟨S16x3x76x76, .f32⟩
  | .hbm, ⟨49, _⟩ => ⟨S16x3x76x76, .f32⟩
  | .hbm, ⟨50, _⟩ => ⟨S_, .f32⟩
  | .hbm, ⟨51, _⟩ => ⟨S16x3x76x76, .f32⟩
  | .hbm, ⟨52, _⟩ => ⟨S16x3x76x76, .f32⟩
  | .hbm, ⟨53, _⟩ => ⟨S1x3x1x1x2, .f32⟩
  | .hbm, ⟨54, _⟩ => ⟨S16x3x76x76x2, .f32⟩
  | .hbm, ⟨55, _⟩ => ⟨S16x3x76x76x2, .f32⟩
  | .hbm, ⟨56, _⟩ => ⟨S16x3x76x76x2, .f32⟩
  | .hbm, ⟨57, _⟩ => ⟨S16x3x76x76x2, .f32⟩
  | .hbm, ⟨58, _⟩ => ⟨S16x3x76x76x1, .f32⟩
  | .hbm, ⟨59, _⟩ => ⟨S16x3x76x76x1, .f32⟩
  | .hbm, ⟨60, _⟩ => ⟨S16x3x76x76x1, .f32⟩
  | .hbm, ⟨61, _⟩ => ⟨S_, .f32⟩
  | .hbm, ⟨62, _⟩ => ⟨S16x3x76x76x1, .f32⟩
  | .hbm, ⟨63, _⟩ => ⟨S16x3x76x76x1, .f32⟩
  | .hbm, ⟨64, _⟩ => ⟨S_, .f32⟩
  | .hbm, ⟨65, _⟩ => ⟨S16x3x76x76x1, .f32⟩
  | .hbm, ⟨66, _⟩ => ⟨S16x3x76x76x1, .f32⟩
  | .hbm, ⟨67, _⟩ => ⟨S16x3x76x76x80, .f32⟩
  | .hbm, ⟨68, _⟩ => ⟨S16x3x76x76x80, .f32⟩
  | .hbm, ⟨69, _⟩ => ⟨S16x3x76x76x80, .f32⟩
  | .hbm, ⟨70, _⟩ => ⟨S_, .f32⟩
  | .hbm, ⟨71, _⟩ => ⟨S16x3x76x76x80, .f32⟩
  | .hbm, ⟨72, _⟩ => ⟨S16x3x76x76x80, .f32⟩
  | .hbm, ⟨73, _⟩ => ⟨S_, .f32⟩
  | .hbm, ⟨74, _⟩ => ⟨S16x3x76x76x80, .f32⟩
  | .hbm, ⟨75, _⟩ => ⟨S16x3x76x76x80, .f32⟩
  | .hbm, ⟨76, _⟩ => ⟨S16x3x76x76x1, .f32⟩
  | .hbm, ⟨77, _⟩ => ⟨S16x3x76x76x1, .f32⟩
  | .hbm, ⟨78, _⟩ => ⟨S16x3x76x76x85, .f32⟩
  | .hbm, ⟨79, _⟩ => ⟨S16x17328x85, .f32⟩
  | _, _ => ⟨S16x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c : Ref sig .tc := ⟨.hbm, 10, rfl⟩
abbrev main_call0_v6 : Ref sig .tc := ⟨.hbm, 11, rfl⟩
abbrev main_call0_v7 : Ref sig .tc := ⟨.hbm, 12, rfl⟩
abbrev main_call0_c_0 : Ref sig .tc := ⟨.hbm, 13, rfl⟩
abbrev main_call0_v8 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Proof.HostWords.lean ====
module

public import proofs.«01_k».proof.Proof.Gen.KernelIdeal.Frame
public import Idealize.ShloMosaic.Lib.StableHlo.RunRead
public import Idealize.ShloMosaic.Lib.Pointwise
public import Idealize.ShloMosaic.Lib.Routing.Ops

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ)

/-- The bits of `true` and of `false` choose as a conditional does. -/
theorem select_ofBool {α : Type} (b : Bool) (x y : α) : Scalar.select (BitVec.ofBool b) x y = if b then x else y := by
  cases b <;> rfl

/-- A core's buffers after the host operations that compute the stride, the channel numbers and the anchor numbers. -/
def mid (c : Dev nD) : Valuation τ sig (Elt Ideal) :=
  StableHlo.after (List.flatten [hostOps0, hostOps0_1, hostOps0_2, hostOps0_3, hostOps0_4, hostOps0_5]) (fun b => m (c, b))

/-- The buffers when the kernel's region is entered: the other host operations, run from `mid`. -/
theorem V0_eq_mid (c : Dev nD) : V0 m c = StableHlo.after (List.flatten [hostOps0_6, hostOps0_7, hostOps0_8, hostOps0_9, hostOps0_10,
    hostOps0_11, hostOps0_12, hostOps0_13, hostOps0_14, hostOps0_15, hostOps0_16, hostOps0_17, hostOps0_18, hostOps0_19, hostOps0_20,
    hostOps0_21, hostOps0_22, hostOps0_23]) (mid m c) := by
  rw [mid, ← StableHlo.after_append]
  rfl

/-- The stride as the kernel's tables hold it. -/
def stride (c : Dev nD) : EReal := mid m c (Proc.devRef .tc main_v1) ix0

/-- Number `j` of anchor `a`: its width (0) or its height (1). -/
def anchor (c : Dev nD) (a : Fin 3) (j : Fin 2) : EReal := m (c, Proc.devRef .tc main_arg1) (ix2 a j)

/-- Image `n`'s prediction at column `k`, row `i` and column `j` of the grid. -/
def raw (c : Dev nD) (n : Fin 16) (k : Fin 255) (i j : Fin 76) : EReal := m (c, Proc.devRef .tc main_arg0) (ix4 n k i j)

/-- Row `r` of the table that the kernel's second window takes, at image `n` and column `k`. -/
def tab (c : Dev nD) (r : Fin 5) (n : Fin 16) (k : Fin 255) : EReal := V m c main_v45 (ix3 r n k)

/-- The grid's coordinates as the kernel's third window takes them: column (0) or row (1) of cell `p`, at image `n`. -/
def mxy (c : Dev nD) (p : Fin 5776) (n : Fin 16) (j : Fin 2) : EReal := V m c main_v55 (ix3 p n j)

/-- The predictions as the kernel's first window takes them: cell `p`, image `n`, column `k`. -/
def x3 (c : Dev nD) (p : Fin 5776) (n : Fin 16) (k : Fin 255) : EReal := V m c main_v57 (ix3 p n k)

/-- The grid's stride from the image size, in words: `jnp.floor_divide` by 76 as it prints. -/
def strideWord (w : BitVec 32) : BitVec 32 :=
  Scalar.select (IntOp.andi (IntOp.cmpi .ne (if w = 0 then 0 else if w.msb then -1 else 1) 1#32)
      (IntOp.cmpi .ne (IntOp.remsi .host w 76#32) 0#32))
    (IntOp.subi (IntOp.divsi .host w 76#32) 1#32) (IntOp.divsi .host w 76#32)

/-- The channel number of column `k` is the remainder of `k` by 85. -/
theorem mid_v3 (c : Dev nD) (k : Fin 255) :
    mid m c (Proc.devRef .tc main_v3) (ix1 k) = BitVec.ofNat 32 (k.val % 85) := by
  unfold mid
  simp only [hostOps0, hostOps0_1, hostOps0_2, hostOps0_3, hostOps0_4, hostOps0_5, List.flatten_cons, List.flatten_nil, List.append_nil,
    List.cons_append, List.nil_append, StableHlo.TRef.binary, StableHlo.TRef.nullary, StableHlo.TRef.ternary, StableHlo.TRef.unary,
    StableHlo.TRef.toBuf, StableHlo.TRef.ofBuf, cast_eq]
  after_reads_simp
  simp only [id]
  pointwise
  revert k
  decide +kernel

/-- The anchor number of column `k` is the quotient of `k` by 85. -/
theorem mid_v4 (c : Dev nD) (k : Fin 255) :
    mid m c (Proc.devRef .tc main_v4) (ix1 k) = BitVec.ofNat 32 (k.val / 85) := by
  unfold mid
  simp only [hostOps0, hostOps0_1, hostOps0_2, hostOps0_3, hostOps0_4, hostOps0_5, List.flatten_cons, List.flatten_nil, List.append_nil,
    List.cons_append, List.nil_append, StableHlo.TRef.binary, StableHlo.TRef.nullary, StableHlo.TRef.ternary, StableHlo.TRef.unary,
    StableHlo.TRef.toBuf, StableHlo.TRef.ofBuf, cast_eq]
  after_reads_simp
  simp only [id]
  pointwise
  revert k
  decide +kernel

/-- The stride the tables hold is the one of the image size's word, as a real number. -/
theorem stride_eq (c : Dev nD) :
    stride m c = FloatOps.sitofp (F := Ideal) .f32 (strideWord (m (c, Proc.devRef .tc main_arg2) ix0)) := by
  unfold stride mid
  simp only [hostOps0, hostOps0_1, hostOps0_2, hostOps0_3, hostOps0_4, hostOps0_5, List.flatten_cons, List.flatten_nil, List.append_nil,
    List.cons_append, List.nil_append, StableHlo.TRef.binary, StableHlo.TRef.nullary, StableHlo.TRef.ternary, StableHlo.TRef.unary,
    StableHlo.TRef.toBuf, StableHlo.TRef.ofBuf, cast_eq]
  after_reads_simp
  simp only [id]
  pointwise
  rfl

/-- The anchors are as launched. -/
theorem mid_arg1 (c : Dev nD) :
    mid m c (Proc.devRef .tc main_arg1) = m (c, Proc.devRef .tc main_arg1) := by
  unfold mid
  simp only [hostOps0, hostOps0_1, hostOps0_2, hostOps0_3, hostOps0_4, hostOps0_5, List.flatten_cons, List.flatten_nil, List.append_nil,
    List.cons_append, List.nil_append, StableHlo.TRef.binary, StableHlo.TRef.nullary, StableHlo.TRef.ternary, StableHlo.TRef.unary,
    StableHlo.TRef.toBuf, StableHlo.TRef.ofBuf, cast_eq]
  after_reads_simp

/-- The raw predictions are as launched. -/
theorem mid_arg0 (c : Dev nD) :
    mid m c (Proc.devRef .tc main_arg0) = m (c, Proc.devRef .tc main_arg0) := by
  unfold mid
  simp only [hostOps0, hostOps0_1, hostOps0_2, hostOps0_3, hostOps0_4, hostOps0_5, List.flatten_cons, List.flatten_nil, List.append_nil,
    List.cons_append, List.nil_append, StableHlo.TRef.binary, StableHlo.TRef.nullary, StableHlo.TRef.ternary, StableHlo.TRef.unary,
    StableHlo.TRef.toBuf, StableHlo.TRef.ofBuf, cast_eq]
  after_reads_simp

end Cert.Proof
-- ==== Proof.Block.lean ====
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Proof

open Idealize.ShloMosaic Cert.KernelIdeal Cert.KernelIdeal.Gen

/-- What the kernel computes of one prediction `x` from the five table entries of its column and its cell's coordinates. -/
def cell (x sg av bv dv ev mx my : EReal) : EReal :=
  av * Ideal.div 1 (1 + Ideal.exp (x * sg)) + bv * Ideal.exp (x * sg) + dv * mx + ev * my

/-- The column of anchor `a` and channel `c`: there are 85 channels to an anchor. -/
def column (a : Fin 3) (c : Fin 85) : Fin 255 := ⟨85 * a.val + c.val, by have := a.isLt; have := c.isLt; omega⟩

/-- The body's output block at image `n`, anchor `a`, cell `p` of the block and channel `ch`: `cell` of the operands' entries there. -/
def blockAt (x0 : Vec Ideal S152x16x255 .f32) (x1 : Vec Ideal S5x16x255 .f32) (x2 : Vec Ideal S152x16x2 .f32)
    (n : Fin 16) (a : Fin 3) (p : Fin 152) (ch : Fin 85) : EReal :=
  cell (x0 (ix3 p n (column a ch))) (x1 (ix3 (0 : Fin 5) n (column a ch))) (x1 (ix3 (1 : Fin 5) n (column a ch)))
    (x1 (ix3 (2 : Fin 5) n (column a ch))) (x1 (ix3 (3 : Fin 5) n (column a ch))) (x1 (ix3 (4 : Fin 5) n (column a ch)))
    (x2 (ix3 p n (0 : Fin 2))) (x2 (ix3 p n (1 : Fin 2)))

/-- `blockAt` as a block. -/
def blockOut (x0 : Vec Ideal S152x16x255 .f32) (x1 : Vec Ideal S5x16x255 .f32) (x2 : Vec Ideal S152x16x2 .f32) : Vec Ideal S16x3x152x85 .f32 :=
  fun y => blockAt x0 x1 x2 (y 0) (y 1) (y 2) (y 3)

/-- The vector that the three stores slice, at cell `p`, image `n` and column `k`. -/
theorem pay1_apply (x0 : Vec Ideal S152x16x255 .f32) (x1 : Vec Ideal S5x16x255 .f32) (x2 : Vec Ideal S152x16x2 .f32)
    (p : Fin 152) (n : Fin 16) (k : Fin 255) :
    (k0_pay1 (k0_pay10 x0 x1 x2) (k0_pay11 x0 x1 x2) (k0_pay12 x0 x1 x2) (k0_pay13 x0 x1 x2) (k0_pay14 x0 x1 x2) (ix3 p n k) : EReal)
      = cell (x0 (ix3 p n k)) (x1 (ix3 (0 : Fin 5) n k)) (x1 (ix3 (1 : Fin 5) n k)) (x1 (ix3 (2 : Fin 5) n k)) (x1 (ix3 (3 : Fin 5) n k))
          (x1 (ix3 (4 : Fin 5) n k)) (x2 (ix3 p n (0 : Fin 2))) (x2 (ix3 p n (1 : Fin 2))) := by
  unfold k0_pay10 k0_pay11 k0_pay12 k0_pay13 k0_pay14 k0_pay1 k0_pay5 k0_pay6 k0_pay7 k0_pay8 k0_pay9 cell
  pointwise

/-- The first store puts anchor 0's columns into the block. -/
theorem piece0 (x0 : Vec Ideal S152x16x255 .f32) (x1 : Vec Ideal S5x16x255 .f32) (x2 : Vec Ideal S152x16x2 .f32) (x : S16x1x152x85.Idx) :
    k0_pay2 (k0_pay10 x0 x1 x2) (k0_pay11 x0 x1 x2) (k0_pay12 x0 x1 x2) (k0_pay13 x0 x1 x2) (k0_pay14 x0 x1 x2) x
      = blockOut x0 x1 x2 (r0_8.emb x) := by
  have e0 : (r0_8.emb x 0 : Fin 16) = x 0 := Fin.ext (by show 0 + 1 * (x 0).val = (x 0).val; omega)
  have e1 : (r0_8.emb x 1 : Fin 3) = (0 : Fin 3) := Fin.ext (by have h : (x 1).val < 1 := (x 1).isLt; show 0 + 1 * (x 1).val = (0 : Fin 3).val; omega)
  have e2 : (r0_8.emb x 2 : Fin 152) = x 2 := Fin.ext (by show 0 + 1 * (x 2).val = (x 2).val; omega)
  have e3 : (r0_8.emb x 3 : Fin 85) = x 3 := Fin.ext (by show 0 + 1 * (x 3).val = (x 3).val; omega)
  have h : blockOut x0 x1 x2 (r0_8.emb x) = k0_pay1 (k0_pay10 x0 x1 x2) (k0_pay11 x0 x1 x2) (k0_pay12 x0 x1 x2) (k0_pay13 x0 x1 x2)
      (k0_pay14 x0 x1 x2) (ix3 (x 2 : Fin 152) (x 0 : Fin 16) (column 0 (x 3))) := by
    refine Eq.trans ?_ (pay1_apply x0 x1 x2 (x 2) (x 0) (column 0 (x 3))).symm
    show blockAt x0 x1 x2 (r0_8.emb x 0) (r0_8.emb x 1) (r0_8.emb x 2) (r0_8.emb x 3) = blockAt x0 x1 x2 (x 0) 0 (x 2) (x 3)
    rw [e0, e1, e2, e3]
  rw [h]
  unfold k0_pay2
  generalize k0_pay1 (k0_pay10 x0 x1 x2) (k0_pay11 x0 x1 x2) (k0_pay12 x0 x1 x2) (k0_pay13 x0 x1 x2) (k0_pay14 x0 x1 x2) = w
  clear h e0 e1 e2 e3
  unfold column
  idx_vars x
  pointwise

/-- The second store puts anchor 1's columns into the block. -/
theorem piece1 (x0 : Vec Ideal S152x16x255 .f32) (x1 : Vec Ideal S5x16x255 .f32) (x2 : Vec Ideal S152x16x2 .f32) (x : S16x1x152x85.Idx) :
    k0_pay3 (k0_pay10 x0 x1 x2) (k0_pay11 x0 x1 x2) (k0_pay12 x0 x1 x2) (k0_pay13 x0 x1 x2) (k0_pay14 x0 x1 x2) x
      = blockOut x0 x1 x2 (r0_9.emb x) := by
  have e0 : (r0_9.emb x 0 : Fin 16) = x 0 := Fin.ext (by show 0 + 1 * (x 0).val = (x 0).val; omega)
  have e1 : (r0_9.emb x 1 : Fin 3) = (1 : Fin 3) := Fin.ext (by have h : (x 1).val < 1 := (x 1).isLt; show 1 + 1 * (x 1).val = (1 : Fin 3).val; omega)
  have e2 : (r0_9.emb x 2 : Fin 152) = x 2 := Fin.ext (by show 0 + 1 * (x 2).val = (x 2).val; omega)
  have e3 : (r0_9.emb x 3 : Fin 85) = x 3 := Fin.ext (by show 0 + 1 * (x 3).val = (x 3).val; omega)
  have h : blockOut x0 x1 x2 (r0_9.emb x) = k0_pay1 (k0_pay10 x0 x1 x2) (k0_pay11 x0 x1 x2) (k0_pay12 x0 x1 x2) (k0_pay13 x0 x1 x2)
      (k0_pay14 x0 x1 x2) (ix3 (x 2 : Fin 152) (x 0 : Fin 16) (column 1 (x 3))) := by
    refine Eq.trans ?_ (pay1_apply x0 x1 x2 (x 2) (x 0) (column 1 (x 3))).symm
    show blockAt x0 x1 x2 (r0_9.emb x 0) (r0_9.emb x 1) (r0_9.emb x 2) (r0_9.emb x 3) = blockAt x0 x1 x2 (x 0) 1 (x 2) (x 3)
    rw [e0, e1, e2, e3]
  rw [h]
  unfold k0_pay3
  generalize k0_pay1 (k0_pay10 x0 x1 x2) (k0_pay11 x0 x1 x2) (k0_pay12 x0 x1 x2) (k0_pay13 x0 x1 x2) (k0_pay14 x0 x1 x2) = w
  clear h e0 e1 e2 e3
  unfold column
  idx_vars x
  pointwise

/-- The third store puts anchor 2's columns into the block. -/
theorem piece2 (x0 : Vec Ideal S152x16x255 .f32) (x1 : Vec Ideal S5x16x255 .f32) (x2 : Vec Ideal S152x16x2 .f32) (x : S16x1x152x85.Idx) :
    k0_pay4 (k0_pay10 x0 x1 x2) (k0_pay11 x0 x1 x2) (k0_pay12 x0 x1 x2) (k0_pay13 x0 x1 x2) (k0_pay14 x0 x1 x2) x
      = blockOut x0 x1 x2 (r0_10.emb x) := by
  have e0 : (r0_10.emb x 0 : Fin 16) = x 0 := Fin.ext (by show 0 + 1 * (x 0).val = (x 0).val; omega)
  have e1 : (r0_10.emb x 1 : Fin 3) = (2 : Fin 3) := Fin.ext (by have h : (x 1).val < 1 := (x 1).isLt; show 2 + 1 * (x 1).val = (2 : Fin 3).val; omega)
  have e2 : (r0_10.emb x 2 : Fin 152) = x 2 := Fin.ext (by show 0 + 1 * (x 2).val = (x 2).val; omega)
  have e3 : (r0_10.emb x 3 : Fin 85) = x 3 := Fin.ext (by show 0 + 1 * (x 3).val = (x 3).val; omega)
  have h : blockOut x0 x1 x2 (r0_10.emb x) = k0_pay1 (k0_pay10 x0 x1 x2) (k0_pay11 x0 x1 x2) (k0_pay12 x0 x1 x2) (k0_pay13 x0 x1 x2)
      (k0_pay14 x0 x1 x2) (ix3 (x 2 : Fin 152) (x 0 : Fin 16) (column 2 (x 3))) := by
    refine Eq.trans ?_ (pay1_apply x0 x1 x2 (x 2) (x 0) (column 2 (x 3))).symm
    show blockAt x0 x1 x2 (r0_10.emb x 0) (r0_10.emb x 1) (r0_10.emb x 2) (r0_10.emb x 3) = blockAt x0 x1 x2 (x 0) 2 (x 2) (x 3)
    rw [e0, e1, e2, e3]
  rw [h]
  unfold k0_pay4
  generalize k0_pay1 (k0_pay10 x0 x1 x2) (k0_pay11 x0 x1 x2) (k0_pay12 x0 x1 x2) (k0_pay13 x0 x1 x2) (k0_pay14 x0 x1 x2) = w
  clear h e0 e1 e2 e3
  unfold column
  idx_vars x
  pointwise

/-- The body's output block is `blockOut` of its operands. -/
theorem out_eq (x0 : Vec Ideal S152x16x255 .f32) (x1 : Vec Ideal S5x16x255 .f32) (x2 : Vec Ideal S152x16x2 .f32) :
    out0_3 x0 x1 x2 = blockOut x0 x1 x2 := by
  funext y
  unfold out0_3
  refine View.canon_apply_of_pieces (blockOut x0 x1 x2) _ ?_ y (cover0_3 _ _ _ y)
  intro pc hpc
  simp only [List.mem_cons, List.not_mem_nil, or_false] at hpc
  rcases hpc with rfl | rfl | rfl
  exacts [piece2 x0 x1 x2, piece1 x0 x1 x2, piece0 x0 x1 x2]

end Cert.Proof
-- ==== Proof.Array.lean ====
module

public import proofs.«01_k».proof.Proof.HostWords
public import proofs.«01_k».proof.Proof.Block
public import Idealize.ShloMosaic.Lib.Pipeline.ValueKit

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ)

/-- What the kernel's array holds at image `n`, anchor `a`, cell `p` of the grid and channel `ch`, in terms of the operands that the host
    operations prepare. -/
def cellAt (c : Dev nD) (n : Fin 16) (a : Fin 3) (p : Fin 5776) (ch : Fin 85) : EReal :=
  cell (x3 m c p n (column a ch)) (tab m c 0 n (column a ch)) (tab m c 1 n (column a ch)) (tab m c 2 n (column a ch))
    (tab m c 3 n (column a ch)) (tab m c 4 n (column a ch)) (mxy m c p n 0) (mxy m c p n 1)

/-- `cellAt` as an array. -/
def arrOut (c : Dev nD) : S16x3x5776x85.Idx → EReal := fun j => cellAt m c (j 0) (j 1) (j 2) (j 3)

/-- The block that each window takes at grid point `t`: the predictions', the coordinates' and the result's move along the cells, the
    table's stays. -/
theorem blockIndex : ∀ t : Fin cfg0.N, win0_0.index t = ![t.val, 0, 0] ∧ win0_1.index t = ![0, 0, 0] ∧ win0_2.index t = ![t.val, 0, 0]
    ∧ win0_3.index t = ![0, 0, t.val, 0] := by
  decide +kernel

/-- Cell `p` of grid point `t`'s block, counted over the whole grid. -/
def cellOf (t : Fin cfg0.N) (p : Fin 152) : Fin 5776 :=
  ⟨t.val * 152 + p.val, by have h : t.val < 38 := t.isLt; have := p.isLt; omega⟩

/-- The block of predictions at point `t`. -/
theorem read0 (c : Dev nD) (t : Fin cfg0.N) (p : Fin 152) (n : Fin 16) (k : Fin 255) :
    (iblk m c 0 t (ix3 p n k) : EReal) = x3 m c (cellOf t p) n k := by
  unfold x3 cellOf
  blk_ext [iblk, blockIndex t]

/-- The table's block at point `t` is the table. -/
theorem read1 (c : Dev nD) (t : Fin cfg0.N) (r : Fin 5) (n : Fin 16) (k : Fin 255) :
    (iblk m c 1 t (ix3 r n k) : EReal) = tab m c r n k := by
  unfold tab
  blk_ext [iblk, blockIndex t]

/-- The block of coordinates at point `t`. -/
theorem read2 (c : Dev nD) (t : Fin cfg0.N) (p : Fin 152) (n : Fin 16) (j : Fin 2) :
    (iblk m c 2 t (ix3 p n j) : EReal) = mxy m c (cellOf t p) n j := by
  unfold mxy cellOf
  blk_ext [iblk, blockIndex t]

/-- The body's output block at point `t` is that part of `arrOut`. -/
theorem blockAt_eq (c : Dev nD) (t : Fin cfg0.N) (n : Fin 16) (a : Fin 3) (p : Fin 152) (ch : Fin 85) :
    blockAt (iblk m c 0 t) (iblk m c 1 t) (iblk m c 2 t) n a p ch = cellAt m c n a (cellOf t p) ch := by
  unfold blockAt cellAt
  rw [read0, read1, read1, read1, read1, read1, read2, read2]

/-- After the grid, the kernel's array is `arrOut`. -/
theorem array_eq (c : Dev nD) : (dats m 0 c).arrAt 3 cfg0.N = arrOut m c := by
  refine (dats m 0 c).arrAt_eq_of_covers 3 _ (by decide +kernel) fun t hf y => ?_
  blk_simp
  rw [after0_3, out_eq]
  refine (blockAt_eq m c t (y 0) (y 1) (y 2) (y 3)).trans ?_
  have e0 : ((win0_3.blk t).view.emb y 0 : Fin 16) = y 0 := Fin.ext (by blk_simp [blockIndex t])
  have e1 : ((win0_3.blk t).view.emb y 1 : Fin 3) = y 1 := Fin.ext (by blk_simp [blockIndex t])
  have e2 : ((win0_3.blk t).view.emb y 2 : Fin 5776) = cellOf t (y 2) := Fin.ext (by unfold cellOf; blk_simp [blockIndex t])
  have e3 : ((win0_3.blk t).view.emb y 3 : Fin 85) = y 3 := Fin.ext (by blk_simp [blockIndex t])
  show _ = cellAt m c ((win0_3.blk t).view.emb y 0) ((win0_3.blk t).view.emb y 1) ((win0_3.blk t).view.emb y 2) ((win0_3.blk t).view.emb y 3)
  rw [e0, e1, e2, e3]

end Cert.Proof
-- ==== Proof.Reference.lean ====
module

public import proofs.«01_k».proof.Proof.HostWords
public import proofs.«01_k».proof.Proof.Gen.ReferenceIdeal.Run

@[expose] public section

set_option maxRecDepth 16384

noncomputable section

namespace Cert.Proof

open Idealize.ShloMosaic Idealize.ShloMosaic.TcCoe Cert.ReferenceIdeal Cert.ReferenceIdeal.Facts₀

variable (m : (ℓ : Loc nD τ sig) → Buf (Elt Ideal) ℓ)

/-- The reference's prediction of image `n` at anchor `a`, cell `p` and channel `ch`. -/
def rawRef (c : Dev nD) (n : Fin 16) (a : Fin 3) (p : Fin 5776) (ch : Fin 85) : EReal :=
  m (c, Proc.devRef .tc main_arg0) (ix4 n (⟨85 * a.val + ch.val, by have := a.isLt; have := ch.isLt; omega⟩ : Fin 255)
    (⟨p.val / 76, by have := p.isLt; omega⟩ : Fin 76) (⟨p.val % 76, by omega⟩ : Fin 76))

/-- The reference's anchor size. -/
def anchorRef (c : Dev nD) (a : Fin 3) (j : Fin 2) : EReal := m (c, Proc.devRef .tc main_arg1) (ix2 a j)

/-- The stride, as both programs compute it. -/
def strideRef (c : Dev nD) : EReal := FloatOps.sitofp (F := Ideal) .f32 (strideWord (m (c, Proc.devRef .tc main_arg2) ix0))

/-- The logistic function. -/
def sigmoid (x : EReal) : EReal := Ideal.div 1 (1 + Ideal.exp (-x))

/-- Channel `c` of anchor `a` is column `85 a + c` of the predictions, which the transposed array takes. -/
theorem moved_apply (X : Vec Ideal S16x255x76x76 .f32) (n : Fin 16) (a : Fin 3) (i j : Fin 76) (ch : Fin 85) :
    (transpose S16x3x76x76x85 [0, 1, 3, 4, 2] (shapeCast S16x3x85x76x76 X shapeCasts_S16x255x76x76_S16x3x85x76x76)
        transposes_S16x3x85x76x76_S16x3x76x76x85_0_1_3_4_2 (ix5 n a i j ch) : EReal)
      = X (ix4 n (⟨85 * a.val + ch.val, by have := a.isLt; have := ch.isLt; omega⟩ : Fin 255) i j) := by
  pointwise
  simp only [Nat.mul_comm]

/-- The stride, in words. -/
theorem stride_apply (w : IVec S_ 32) :
    select (andi (cmpi .ne (signi w) (signi (id (constantI S_ 32 76#32)))) (cmpi .ne (Host.remsi w (id (constantI S_ 32 76#32))) (constantI S_ 32 0#32)))
        (subi (Host.divsi w (id (constantI S_ 32 76#32))) (constantI S_ 32 1#32)) (Host.divsi w (id (constantI S_ 32 76#32))) ix0
      = strideWord (w ix0) := by
  simp only [id]
  pointwise
  rfl

/-- The row of the result at which anchor `a`'s cell `p` stands. -/
def row (a : Fin 3) (p : Fin 5776) : Fin 17328 := ⟨5776 * a.val + p.val, by have := a.isLt; have := p.isLt; omega⟩

/-- The row of the grid in which cell `p` stands. -/
def gridRow (p : Fin 5776) : Fin 76 := ⟨p.val / 76, by have := p.isLt; omega⟩
/-- The column of the grid in which cell `p` stands. -/
def gridCol (p : Fin 5776) : Fin 76 := ⟨p.val % 76, by omega⟩

/-- Row `row a p` of the flat result is cell `p` of its anchor's grid. -/
theorem row_div (a : Fin 3) (p : Fin 5776) : (5776 * a.val + p.val) / 76 % 76 = p.val / 76 := by
  have := a.isLt; have := p.isLt; omega

/-- The same row's column of the grid. -/
theorem row_mod (a : Fin 3) (p : Fin 5776) : (5776 * a.val + p.val) % 76 = p.val % 76 := by
  have := a.isLt; have := p.isLt; omega

/-- Channel 0 of the result is the first piece. -/
theorem cat0 (A B : Vec Ideal S16x3x76x76x1 .f32) (C : Vec Ideal S16x3x76x76x2 .f32) (D : Vec Ideal S16x3x76x76x1 .f32)
    (E : Vec Ideal S16x3x76x76x80 .f32) (n : Fin 16) (a : Fin 3) (p : Fin 5776) :
    (shapeCast S16x17328x85 (concatenate S16x3x76x76x85 4 [⟨S16x3x76x76x1, A⟩, ⟨S16x3x76x76x1, B⟩, ⟨S16x3x76x76x2, C⟩, ⟨S16x3x76x76x1, D⟩,
      ⟨S16x3x76x76x80, E⟩] concatenates_S16x3x76x76x1_S16x3x76x76x1_S16x3x76x76x2_S16x3x76x76x1_S16x3x76x76x80_S16x3x76x76x85_d4)
      shapeCasts_S16x3x76x76x85_S16x17328x85 (ix3 n (row a p) (0 : Fin 85)) : EReal)
      = A (ix5 n a (gridRow p) (gridCol p) (0 : Fin 1)) := by
  unfold row gridRow gridCol
  pointwise
  simp only [row_div, row_mod]

/-- Channel 1 of the result is the second piece. -/
theorem cat1 (A B : Vec Ideal S16x3x76x76x1 .f32) (C : Vec Ideal S16x3x76x76x2 .f32) (D : Vec Ideal S16x3x76x76x1 .f32)
    (E : Vec Ideal S16x3x76x76x80 .f32) (n : Fin 16) (a : Fin 3) (p : Fin 5776) :
    (shapeCast S16x17328x85 (concatenate S16x3x76x76x85 4 [⟨S16x3x76x76x1, A⟩, ⟨S16x3x76x76x1, B⟩, ⟨S16x3x76x76x2, C⟩, ⟨S16x3x76x76x1, D⟩,
      ⟨S16x3x76x76x80, E⟩] concatenates_S16x3x76x76x1_S16x3x76x76x1_S16x3x76x76x2_S16x3x76x76x1_S16x3x76x76x80_S16x3x76x76x85_d4)
      shapeCasts_S16x3x76x76x85_S16x17328x85 (ix3 n (row a p) (1 : Fin 85)) : EReal)
      = B (ix5 n a (gridRow p) (gridCol p) (0 : Fin 1)) := by
  unfold row gridRow gridCol
  pointwise
  simp only [row_div, row_mod]

/-- Channels 2 and 3 of the result are the third piece. -/
theorem cat2 (A B : Vec Ideal S16x3x76x76x1 .f32) (C : Vec Ideal S16x3x76x76x2 .f32) (D : Vec Ideal S16x3x76x76x1 .f32)
    (E : Vec Ideal S16x3x76x76x80 .f32) (n : Fin 16) (a : Fin 3) (p : Fin 5776) (j : Fin 2) :
    (shapeCast S16x17328x85 (concatenate S16x3x76x76x85 4 [⟨S16x3x76x76x1, A⟩, ⟨S16x3x76x76x1, B⟩, ⟨S16x3x76x76x2, C⟩, ⟨S16x3x76x76x1, D⟩,
      ⟨S16x3x76x76x80, E⟩] concatenates_S16x3x76x76x1_S16x3x76x76x1_S16x3x76x76x2_S16x3x76x76x1_S16x3x76x76x80_S16x3x76x76x85_d4)
      shapeCasts_S16x3x76x76x85_S16x17328x85 (ix3 n (row a p) (⟨2 + j.val, by have := j.isLt; omega⟩ : Fin 85)) : EReal)
      = C (ix5 n a (gridRow p) (gridCol p) j) := by
  unfold row gridRow gridCol
  pointwise
  have := j.isLt
  rw [dif_neg (by omega), dif_neg (by omega), dif_pos (by omega)]
  simp only [row_div, row_mod, show 2 + j.val - 1 - 1 = j.val by omega]

/-- Channel 4 of the result is the fourth piece. -/
theorem cat4 (A B : Vec Ideal S16x3x76x76x1 .f32) (C : Vec Ideal S16x3x76x76x2 .f32) (D : Vec Ideal S16x3x76x76x1 .f32)
    (E : Vec Ideal S16x3x76x76x80 .f32) (n : Fin 16) (a : Fin 3) (p : Fin 5776) :
    (shapeCast S16x17328x85 (concatenate S16x3x76x76x85 4 [⟨S16x3x76x76x1, A⟩, ⟨S16x3x76x76x1, B⟩, ⟨S16x3x76x76x2, C⟩, ⟨S16x3x76x76x1, D⟩,
      ⟨S16x3x76x76x80, E⟩] concatenates_S16x3x76x76x1_S16x3x76x76x1_S16x3x76x76x2_S16x3x76x76x1_S16x3x76x76x80_S16x3x76x76x85_d4)
      shapeCasts_S16x3x76x76x85_S16x17328x85 (ix3 n (row a p) (4 : Fin 85)) : EReal)
      = D (ix5 n a (gridRow p) (gridCol p) (0 : Fin 1)) := by
  unfold row gridRow gridCol
  pointwise
  simp only [row_div, row_mod]

/-- The channels from 5 on are the fifth piece. -/
theorem cat5 (A B : Vec Ideal S16x3x76x76x1 .f32) (C : Vec Ideal S16x3x76x76x2 .f32) (D : Vec Ideal S16x3x76x76x1 .f32)
    (E : Vec Ideal S16x3x76x76x80 .f32) (n : Fin 16) (a : Fin 3) (p : Fin 5776) (j : Fin 80) :
    (shapeCast S16x17328x85 (concatenate S16x3x76x76x85 4 [⟨S16x3x76x76x1, A⟩, ⟨S16x3x76x76x1, B⟩, ⟨S16x3x76x76x2, C⟩, ⟨S16x3x76x76x1, D⟩,
      ⟨S16x3x76x76x80, E⟩] concatenates_S16x3x76x76x1_S16x3x76x76x1_S16x3x76x76x2_S16x3x76x76x1_S16x3x76x76x80_S16x3x76x76x85_d4)
      shapeCasts_S16x3x76x76x85_S16x17328x85 (ix3 n (row a p) (⟨5 + j.val, by have := j.isLt; omega⟩ : Fin 85)) : EReal)
      = E (ix5 n a (gridRow p) (gridCol p) j) := by
  unfold row gridRow gridCol
  pointwise
  rw [dif_neg (by omega), dif_neg (by omega), dif_neg (by omega), dif_neg (by omega)]
  simp only [row_div, row_mod, show 5 + j.val - 1 - 1 - 2 - 1 = j.val by omega]

/-- The boxes' horizontal centres. -/
theorem piece_x (Y : FVec Ideal S16x3x76x76x85 .f32) (s : IVec S_ 32) (n : Fin 16) (a : Fin 3) (i j : Fin 76) :
    ((broadcastInDim S16x3x76x76x1 ![0, 1, 2, 3] bcast_S16x3x76x76_S16x3x76x76x1_0_1_2_3 (mulf (F := Ideal) (φ := .f32) (addf (Host.divf (broadcastInDim S16x3x76x76 ![] bcast_S_S16x3x76x76 (constant S_ .f32 0x3F800000#32))
        (addf (broadcastInDim S16x3x76x76 ![] bcast_S_S16x3x76x76 (constant S_ .f32 0x3F800000#32)) (Host.exp (Host.negf (shapeCast S16x3x76x76
          (extractStridedSlice S16x3x76x76x1 ![0, 0, 0, 0, 0] Y slices_S16x3x76x76x85_S16x3x76x76x1_0_0_0_0_0)
          shapeCasts_S16x3x76x76x1_S16x3x76x76)))))
        (broadcastInDim S16x3x76x76 ![0, 1, 2, 3] bcast_S1x1x76x76_S16x3x76x76_0_1_2_3 (broadcastInDim S1x1x76x76 ![2, 3]
          bcast_S76x76_S1x1x76x76_2_3 (broadcastInDim S76x76 ![1] bcast_S76_S76x76_1 (sitofp .f32 (iotaInDim S76 32 0))))))
        (broadcastInDim S16x3x76x76 ![] bcast_S_S16x3x76x76 (sitofp .f32 s))) : FVec Ideal S16x3x76x76x1 .f32) (ix5 n a i j (0 : Fin 1)) : EReal)
      = (sigmoid (Y (ix5 n a i j (0 : Fin 85))) + FloatOps.sitofp (F := Ideal) .f32 (BitVec.ofNat 32 j.val))
          * FloatOps.sitofp (F := Ideal) .f32 (s ix0) := by
  unfold sigmoid
  pointwise

/-- The boxes' vertical centres. -/
theorem piece_y (Y : FVec Ideal S16x3x76x76x85 .f32) (s : IVec S_ 32) (n : Fin 16) (a : Fin 3) (i j : Fin 76) :
    ((broadcastInDim S16x3x76x76x1 ![0, 1, 2, 3] bcast_S16x3x76x76_S16x3x76x76x1_0_1_2_3 (mulf (F := Ideal) (φ := .f32) (addf (Host.divf (broadcastInDim S16x3x76x76 ![] bcast_S_S16x3x76x76 (constant S_ .f32 0x3F800000#32))
        (addf (broadcastInDim S16x3x76x76 ![] bcast_S_S16x3x76x76 (constant S_ .f32 0x3F800000#32)) (Host.exp (Host.negf (shapeCast S16x3x76x76
          (extractStridedSlice S16x3x76x76x1 ![0, 0, 0, 0, 1] Y slices_S16x3x76x76x85_S16x3x76x76x1_0_0_0_0_1)
          shapeCasts_S16x3x76x76x1_S16x3x76x76)))))
        (broadcastInDim S16x3x76x76 ![0, 1, 2, 3] bcast_S1x1x76x76_S16x3x76x76_0_1_2_3 (broadcastInDim S1x1x76x76 ![2, 3]
          bcast_S76x76_S1x1x76x76_2_3 (broadcastInDim S76x76 ![0] bcast_S76_S76x76_0 (sitofp .f32 (iotaInDim S76 32 0))))))
        (broadcastInDim S16x3x76x76 ![] bcast_S_S16x3x76x76 (sitofp .f32 s))) : FVec Ideal S16x3x76x76x1 .f32) (ix5 n a i j (0 : Fin 1)) : EReal)
      = (sigmoid (Y (ix5 n a i j (1 : Fin 85))) + FloatOps.sitofp (F := Ideal) .f32 (BitVec.ofNat 32 i.val))
          * FloatOps.sitofp (F := Ideal) .f32 (s ix0) := by
  unfold sigmoid
  pointwise

/-- The sizes of the boxes. -/
theorem piece_wh (Y : FVec Ideal S16x3x76x76x85 .f32) (A : FVec Ideal S3x2 .f32) (n : Fin 16) (a : Fin 3) (i j : Fin 76) (q : Fin 2) :
    ((mulf (F := Ideal) (φ := .f32) (Host.exp (extractStridedSlice S16x3x76x76x2 ![0, 0, 0, 0, 2] Y slices_S16x3x76x76x85_S16x3x76x76x2_0_0_0_0_2))
        (broadcastInDim S16x3x76x76x2 ![0, 1, 2, 3, 4] bcast_S1x3x1x1x2_S16x3x76x76x2_0_1_2_3_4
          (shapeCast S1x3x1x1x2 A shapeCasts_S3x2_S1x3x1x1x2)) : FVec Ideal S16x3x76x76x2 .f32) (ix5 n a i j q) : EReal)
      = Ideal.exp (Y (ix5 n a i j (⟨2 + q.val, by have := q.isLt; omega⟩ : Fin 85))) * A (ix2 a q) := by
  pointwise

/-- The boxes' confidences. -/
theorem piece_conf (Y : FVec Ideal S16x3x76x76x85 .f32) (n : Fin 16) (a : Fin 3) (i j : Fin 76) (q : Fin 1) :
    ((Host.divf (F := Ideal) (φ := .f32) (broadcastInDim S16x3x76x76x1 ![] bcast_S_S16x3x76x76x1 (constant S_ .f32 0x3F800000#32)) (addf (broadcastInDim S16x3x76x76x1 ![] bcast_S_S16x3x76x76x1 (constant S_ .f32 0x3F800000#32)) (Host.exp (Host.negf
        (extractStridedSlice S16x3x76x76x1 ![0, 0, 0, 0, 4] Y slices_S16x3x76x76x85_S16x3x76x76x1_0_0_0_0_4)))) : FVec Ideal S16x3x76x76x1 .f32) (ix5 n a i j q) : EReal)
      = sigmoid (Y (ix5 n a i j (⟨4 + q.val, by have := q.isLt; omega⟩ : Fin 85))) := by
  unfold sigmoid
  pointwise

/-- The classes' probabilities. -/
theorem piece_cls (Y : FVec Ideal S16x3x76x76x85 .f32) (n : Fin 16) (a : Fin 3) (i j : Fin 76) (q : Fin 80) :
    ((Host.divf (F := Ideal) (φ := .f32) (broadcastInDim S16x3x76x76x80 ![] bcast_S_S16x3x76x76x80 (constant S_ .f32 0x3F800000#32)) (addf (broadcastInDim S16x3x76x76x80 ![] bcast_S_S16x3x76x76x80 (constant S_ .f32 0x3F800000#32)) (Host.exp (Host.negf
        (extractStridedSlice S16x3x76x76x80 ![0, 0, 0, 0, 5] Y slices_S16x3x76x76x85_S16x3x76x76x80_0_0_0_0_5)))) : FVec Ideal S16x3x76x76x80 .f32) (ix5 n a i j q) : EReal)
      = sigmoid (Y (ix5 n a i j (⟨5 + q.val, by have := q.isLt; omega⟩ : Fin 85))) := by
  unfold sigmoid
  pointwise

/-- The reference's channel 0: the box's horizontal centre. -/
theorem ref_x (c : Dev nD) (n : Fin 16) (a : Fin 3) (p : Fin 5776) :
    (Value.res_main_v56 m c (ix3 n (row a p) (0 : Fin 85)) : EReal)
      = (sigmoid (rawRef m c n a p 0) + FloatOps.sitofp (F := Ideal) .f32 (BitVec.ofNat 32 (p.val % 76))) * strideRef m c := by
  unfold Value.res_main_v56
  refine (cat0 _ _ _ _ _ n a p).trans ((piece_x _ _ n a _ _).trans ?_)
  rw [moved_apply, stride_apply]
  rfl

/-- The reference's channel 1: the box's vertical centre. -/
theorem ref_y (c : Dev nD) (n : Fin 16) (a : Fin 3) (p : Fin 5776) :
    (Value.res_main_v56 m c (ix3 n (row a p) (1 : Fin 85)) : EReal)
      = (sigmoid (rawRef m c n a p 1) + FloatOps.sitofp (F := Ideal) .f32 (BitVec.ofNat 32 (p.val / 76))) * strideRef m c := by
  unfold Value.res_main_v56
  refine (cat1 _ _ _ _ _ n a p).trans ((piece_y _ _ n a _ _).trans ?_)
  rw [moved_apply, stride_apply]
  rfl

/-- The reference's channels 2 and 3: the box's size. -/
theorem ref_wh (c : Dev nD) (n : Fin 16) (a : Fin 3) (p : Fin 5776) (q : Fin 2) :
    (Value.res_main_v56 m c (ix3 n (row a p) (⟨2 + q.val, by have := q.isLt; omega⟩ : Fin 85)) : EReal)
      = Ideal.exp (rawRef m c n a p ⟨2 + q.val, by have := q.isLt; omega⟩) * anchorRef m c a q := by
  unfold Value.res_main_v56
  refine (cat2 _ _ _ _ _ n a p q).trans ((piece_wh _ _ n a _ _ q).trans ?_)
  rw [moved_apply]
  rfl

/-- The reference's channel 4: the box's confidence. -/
theorem ref_conf (c : Dev nD) (n : Fin 16) (a : Fin 3) (p : Fin 5776) :
    (Value.res_main_v56 m c (ix3 n (row a p) (4 : Fin 85)) : EReal)
      = sigmoid (rawRef m c n a p 4) := by
  unfold Value.res_main_v56
  refine (cat4 _ _ _ _ _ n a p).trans ((piece_conf _ n a _ _ 0).trans ?_)
  rw [moved_apply]
  rfl

/-- The reference's channels from 5 on: the classes' probabilities. -/
theorem ref_cls (c : Dev nD) (n : Fin 16) (a : Fin 3) (p : Fin 5776) (q : Fin 80) :
    (Value.res_main_v56 m c (ix3 n (row a p) (⟨5 + q.val, by have := q.isLt; omega⟩ : Fin 85)) : EReal)
      = sigmoid (rawRef m c n a p ⟨5 + q.val, by have := q.isLt; omega⟩) := by
  unfold Value.res_main_v56
  refine (cat5 _ _ _ _ _ n a p q).trans ((piece_cls _ n a _ _ q).trans ?_)
  rw [moved_apply]
  rfl

end Cert.Proof
-- ==== Proof.Whole.lean ====
module

public import proofs.«01_k».proof.Proof.Array
public import proofs.«01_k».proof.Proof.Reference

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ)

/-- What the final reshape leaves in the result is the kernel's array, flattened. -/
theorem flat_eq (c : Dev nD) :
    Pipeline.afterTail₀ cfgs (dats m) 0 (V0 m) [hostOps1] c main_v59 = shapeCast S16x17328x85 (arrOut m c) shapeCasts_S16x3x5776x85_S16x17328x85 := by
  have h : Pipeline.withArrays spec0 c (V0 m c) (fun w => (dats m 0 c).arrAt w cfg0.N) (Proc.devRef .tc main_v58) = (dats m 0 c).arrAt 3 cfg0.N :=
    Pipeline.withArrays_arr spec0 (by decide) c (V0 m c) (fun w => (dats m 0 c).arrAt w cfg0.N) 3
  rw [← array_eq]
  unfold Pipeline.afterTail₀
  simp only [hostOps1, List.flatten_cons, List.flatten_nil, List.append_nil, List.cons_append, List.nil_append]
  after_reads_simp
  rw [h]
  rfl

/-- The flattened array at anchor `a`'s cell `p`. -/
theorem flat_apply (c : Dev nD) (n : Fin 16) (a : Fin 3) (p : Fin 5776) (ch : Fin 85) :
    shapeCast S16x17328x85 (arrOut m c) shapeCasts_S16x3x5776x85_S16x17328x85 (ix3 n (row a p) ch) = cellAt m c n a p ch := by
  show _ = arrOut m c (ix4 n a p ch)
  generalize arrOut m c = G
  unfold row
  pointwise

end Cert.Proof
-- ==== Proof.HostTab.lean ====
module

public import proofs.«01_k».proof.Proof.HostWords
public import Idealize.ShloMosaic.Lib.IdealHost

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ)

/-- The word of minus one is minus one. -/
theorem ofBits_minus_one : Ideal.ofBits .f32 3212836864#32 = -1 := by
  rw [show (-1 : EReal) = ((-1 : ℝ) : EReal) from rfl]
  simp [Ideal.ofBits, Ideal.ieee, -EReal.coe_mul, -EReal.coe_neg]
  norm_num

/-- Column `k`'s channel number is compared with 2, 3, 0 and 1 as numbers are. -/
theorem channel_eq_two (k : Fin 255) : IntOp.cmpi .eq (BitVec.ofNat 32 (k.val % 85)) 2#32 = BitVec.ofBool (decide (k.val % 85 = 2)) := by
  revert k; decide +kernel
@[inherit_doc channel_eq_two]
theorem channel_eq_three (k : Fin 255) : IntOp.cmpi .eq (BitVec.ofNat 32 (k.val % 85)) 3#32 = BitVec.ofBool (decide (k.val % 85 = 3)) := by
  revert k; decide +kernel
@[inherit_doc channel_eq_two]
theorem channel_eq_zero (k : Fin 255) : IntOp.cmpi .eq (BitVec.ofNat 32 (k.val % 85)) 0#32 = BitVec.ofBool (decide (k.val % 85 = 0)) := by
  revert k; decide +kernel
@[inherit_doc channel_eq_two]
theorem channel_eq_one (k : Fin 255) : IntOp.cmpi .eq (BitVec.ofNat 32 (k.val % 85)) 1#32 = BitVec.ofBool (decide (k.val % 85 = 1)) := by
  revert k; decide +kernel
/-- Column `k`'s channel number is below 2 as a signed word when it is as a number. -/
theorem channel_lt_two (k : Fin 255) : IntOp.cmpi .slt (BitVec.ofNat 32 (k.val % 85)) 2#32 = BitVec.ofBool (decide (k.val % 85 < 2)) := by
  revert k; decide +kernel
/-- The two comparisons together say that column `k` holds a width or a height. -/
theorem channel_size (k : Fin 255) :
    IntOp.ori (IntOp.cmpi .eq (BitVec.ofNat 32 (k.val % 85)) 2#32) (IntOp.cmpi .eq (BitVec.ofNat 32 (k.val % 85)) 3#32)
      = BitVec.ofBool (decide (k.val % 85 = 2 ∨ k.val % 85 = 3)) := by
  revert k; decide +kernel

/-- The rows the kernel gathers from the anchors: column `k` takes the row of anchor `k / 85`. -/
theorem gather_anchor (X : S3x2.Idx → EReal) (q : IVec S255 32) (hq : ∀ k : Fin 255, q (ix1 k) = BitVec.ofNat 32 (k.val / 85))
    (k : Fin 255) (j : Fin 2) :
    Host.gather gather_S3x2_S255x1_S255x2_1_0_n_n_0_1_12 X
        (broadcastInDim S255x1 ![0] bcast_S255_S255x1_0
          (select (cmpi CmpIPredicate.slt q (broadcastInDim S255 ![] bcast_S_S255 (constantI S_ 32 0#32)))
            (addi q (broadcastInDim S255 ![] bcast_S_S255 (constantI S_ 32 3#32))) q)) (ix2 k j)
      = X (ix2 (⟨k.val / 85, by have := k.isLt; omega⟩ : Fin 3) j) := by
  refine Routing.gather_row (nb := 3) (B := 2) (n := 255) gather_S3x2_S255x1_S255x2_1_0_n_n_0_1_12 rfl rfl rfl rfl rfl X _ k j
    ⟨k.val / 85, by have := k.isLt; omega⟩ ?_ (by norm_num)
  show _ = BitVec.ofNat 32 (k.val / 85)
  pointwise
  rw [hq k]
  revert k
  decide +kernel

/-- Row 0 of the table, the sign of the exponent: 1 at a width or a height, -1 elsewhere. -/
theorem tab_sg (c : Dev nD) (n : Fin 16) (k : Fin 255) :
    tab m c 0 n k
      = if k.val % 85 = 2 ∨ k.val % 85 = 3 then 1 else -1 := by
  unfold tab
  rw [V, V0_eq_mid]
  have h3 := mid_v3 m c k
  generalize mid m c = W at h3
  simp only [hostOps0_6, hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_reads_simp
  pointwise
  after_reads_simp
  pointwise
  rw [h3]
  rw [channel_size, select_ofBool, ofBits_minus_one]
  simp only [decide_eq_true_eq]

/-- Row 1 of the table, the weight of the sigmoid: the stride at a centre, 0 at a width or a height, 1 elsewhere. -/
theorem tab_av (c : Dev nD) (n : Fin 16) (k : Fin 255) :
    tab m c 1 n k
      = if k.val % 85 = 2 ∨ k.val % 85 = 3 then 0 else if k.val % 85 < 2 then stride m c else 1 := by
  unfold tab stride
  rw [V, V0_eq_mid]
  have h3 := mid_v3 m c k
  generalize mid m c = W at h3
  simp only [hostOps0_6, hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_reads_simp
  pointwise
  after_reads_simp
  pointwise
  rw [h3]
  rw [channel_size, channel_lt_two, select_ofBool, select_ofBool]
  simp only [decide_eq_true_eq]

/-- Row 2 of the table, the weight of the exponential: the anchor's width or height at a width or a height, 0 elsewhere. -/
theorem tab_bv (c : Dev nD) (n : Fin 16) (k : Fin 255) :
    tab m c 2 n k
      = if k.val % 85 = 2 then anchor m c ⟨k.val / 85, by have := k.isLt; omega⟩ 0
        else if k.val % 85 = 3 then anchor m c ⟨k.val / 85, by have := k.isLt; omega⟩ 1 else 0 := by
  unfold tab anchor
  rw [V, V0_eq_mid]
  have h3 := mid_v3 m c k
  have h4 := mid_v4 m c
  have ha := mid_arg1 m c
  generalize mid m c = W at h3 h4 ha
  simp only [hostOps0_6, hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_reads_simp
  pointwise
  after_reads_simp
  pointwise
  rw [h3]
  rw [gather_anchor _ _ h4 k 0, gather_anchor _ _ h4 k 1, channel_eq_two, channel_eq_three, select_ofBool, select_ofBool, ha]
  simp only [decide_eq_true_eq]

/-- Row 3 of the table, the weight of the grid's column: the stride at the first coordinate of a centre, 0 elsewhere. -/
theorem tab_dv (c : Dev nD) (n : Fin 16) (k : Fin 255) :
    tab m c 3 n k
      = if k.val % 85 = 0 then stride m c else 0 := by
  unfold tab stride
  rw [V, V0_eq_mid]
  have h3 := mid_v3 m c k
  generalize mid m c = W at h3
  simp only [hostOps0_6, hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_reads_simp
  pointwise
  after_reads_simp
  pointwise
  rw [h3]
  rw [channel_eq_zero, select_ofBool]
  simp only [decide_eq_true_eq]

/-- Row 4 of the table, the weight of the grid's row: the stride at the second coordinate of a centre, 0 elsewhere. -/
theorem tab_ev (c : Dev nD) (n : Fin 16) (k : Fin 255) :
    tab m c 4 n k
      = if k.val % 85 = 1 then stride m c else 0 := by
  unfold tab stride
  rw [V, V0_eq_mid]
  have h3 := mid_v3 m c k
  generalize mid m c = W at h3
  simp only [hostOps0_6, hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_reads_simp
  pointwise
  after_reads_simp
  pointwise
  rw [h3]
  rw [channel_eq_one, select_ofBool]
  simp only [decide_eq_true_eq]

end Cert.Proof
-- ==== Proof.HostGrid.lean ====
module

public import proofs.«01_k».proof.Proof.HostWords

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ)

/-- Column 0 of the grid's coordinates: cell `p` is in the grid's column `p % 76`. -/
theorem mxy_x (c : Dev nD) (n : Fin 16) (p : Fin 5776) :
    mxy m c p n 0 = FloatOps.sitofp (F := Ideal) .f32 (BitVec.ofNat 32 (p.val % 76)) := by
  unfold mxy
  rw [V, V0_eq_mid]
  generalize mid m c = W
  simp only [hostOps0_6, hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_reads_simp
  pointwise
  after_reads_simp
  simp only [id]
  pointwise
  refine congrArg _ ?_
  revert p
  decide +kernel

/-- Column 1 of the grid's coordinates: cell `p` is in the grid's row `p / 76`. -/
theorem mxy_y (c : Dev nD) (n : Fin 16) (p : Fin 5776) :
    mxy m c p n 1 = FloatOps.sitofp (F := Ideal) .f32 (BitVec.ofNat 32 (p.val / 76)) := by
  unfold mxy
  rw [V, V0_eq_mid]
  generalize mid m c = W
  simp only [hostOps0_6, hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_reads_simp
  pointwise
  after_reads_simp
  simp only [id]
  pointwise
  refine congrArg _ ?_
  revert p
  decide +kernel

/-- The predictions as the kernel's first window takes them: cell `p` of the grid, image `n`, column `k`. -/
theorem x3_apply (c : Dev nD) (p : Fin 5776) (n : Fin 16) (k : Fin 255) :
    x3 m c p n k
      = raw m c n k ⟨p.val / 76, by have := p.isLt; omega⟩ ⟨p.val % 76, by omega⟩ := by
  unfold x3 raw
  rw [V, V0_eq_mid]
  have ha := mid_arg0 m c
  generalize mid m c = W at ha
  simp only [hostOps0_6, hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_reads_simp
  rw [ha]
  pointwise

end Cert.Proof
-- ==== Proof.Equation.lean ====
module

public import proofs.«01_k».proof.Proof.HostTab
public import proofs.«01_k».proof.Proof.HostGrid
public import proofs.«01_k».proof.Proof.Array
public import proofs.«01_k».proof.Proof.Reference

@[expose] public section

set_option maxRecDepth 16384

noncomputable section

namespace Cert.Proof

open Idealize.ShloMosaic Idealize.ShloMosaic.TcCoe Cert.KernelIdeal

/-- The logistic function's value is a finite real number, at the infinities too. -/
theorem sigmoid_real (x : EReal) : ∃ r : ℝ, sigmoid x = (r : EReal) := by
  unfold sigmoid
  induction x with
  | bot => exact ⟨0, by rw [EReal.neg_bot, show Ideal.exp ⊤ = ⊤ from rfl, show (1 : EReal) + ⊤ = ⊤ from EReal.coe_add_top 1]; simp [Ideal.div]⟩
  | top => exact ⟨1, by rw [EReal.neg_top, show Ideal.exp ⊥ = 0 from rfl]; simp [Ideal.div]⟩
  | coe x =>
    refine ⟨1 * (1 + Real.exp (-x))⁻¹, ?_⟩
    have h : Ideal.exp (-(x : EReal)) = ((Real.exp (-x) : ℝ) : EReal) := by
      rw [← EReal.coe_neg]; rfl
    have hp : (0 : ℝ) < 1 + Real.exp (-x) := by positivity
    have hne : ((1 + Real.exp (-x) : ℝ) : EReal) ≠ 0 := fun e => hp.ne' (EReal.coe_eq_zero.mp e)
    rw [h, ← EReal.coe_one, ← EReal.coe_add]
    unfold Ideal.div
    rw [if_neg hne, ← EReal.coe_inv, ← EReal.coe_mul]

/-- A word read as a number is a finite real number. -/
theorem sitofp_real (w : BitVec 32) : ∃ r : ℝ, FloatOps.sitofp (F := Ideal) .f32 w = (r : EReal) := ⟨(w.toInt : ℝ), rfl⟩

/-- The logistic part of `cell` where the table's sign is -1. -/
theorem neg_part (x : EReal) : Ideal.div 1 (1 + Ideal.exp (x * (-1))) = sigmoid x := by
  rw [mul_neg, mul_one]; rfl

/-- A centre: the stride distributes over the logistic function's value and the cell's coordinate, all three being finite. -/
theorem cell_centre_x (x my : EReal) (w v : BitVec 32) :
    cell x (-1) (FloatOps.sitofp (F := Ideal) .f32 w) 0 (FloatOps.sitofp (F := Ideal) .f32 w) 0 (FloatOps.sitofp (F := Ideal) .f32 v) my
      = (sigmoid x + FloatOps.sitofp (F := Ideal) .f32 v) * FloatOps.sitofp (F := Ideal) .f32 w := by
  unfold cell
  obtain ⟨s, hs⟩ := sigmoid_real x
  obtain ⟨a, ha⟩ := sitofp_real w
  obtain ⟨b, hb⟩ := sitofp_real v
  rw [neg_part, hs, ha, hb, zero_mul, zero_mul, add_zero, add_zero]
  norm_cast
  ring

/-- The same for the vertical centre, whose coordinate the table's last row scales. -/
theorem cell_centre_y (x mx : EReal) (w v : BitVec 32) :
    cell x (-1) (FloatOps.sitofp (F := Ideal) .f32 w) 0 0 (FloatOps.sitofp (F := Ideal) .f32 w) mx (FloatOps.sitofp (F := Ideal) .f32 v)
      = (sigmoid x + FloatOps.sitofp (F := Ideal) .f32 v) * FloatOps.sitofp (F := Ideal) .f32 w := by
  unfold cell
  obtain ⟨s, hs⟩ := sigmoid_real x
  obtain ⟨a, ha⟩ := sitofp_real w
  obtain ⟨b, hb⟩ := sitofp_real v
  rw [neg_part, hs, ha, hb, zero_mul, zero_mul, add_zero, add_zero]
  norm_cast
  ring

/-- A size: only the exponential's term is left. -/
theorem cell_size (x A mx my : EReal) : cell x 1 0 A 0 0 mx my = Ideal.exp x * A := by
  unfold cell
  rw [zero_mul, zero_mul, zero_mul, zero_add, add_zero, add_zero, mul_one, mul_comm]

/-- A confidence or a probability: only the logistic term is left. -/
theorem cell_prob (x mx my : EReal) : cell x (-1) 1 0 0 0 mx my = sigmoid x := by
  unfold cell
  rw [neg_part, zero_mul, zero_mul, zero_mul, add_zero, add_zero, add_zero, one_mul]

variable (m : (ℓ : Loc nD τ sig) → Buf (Elt Ideal) ℓ)

/-- A column's remainder by 85 is its channel. -/
theorem column_mod (a : Fin 3) (ch : Fin 85) : (column a ch).val % 85 = ch.val := by
  have := ch.isLt; show (85 * a.val + ch.val) % 85 = _; omega

/-- A column's quotient by 85 is its anchor. -/
theorem column_div (a : Fin 3) (ch : Fin 85) : (column a ch).val / 85 = a.val := by
  have := ch.isLt; show (85 * a.val + ch.val) / 85 = _; omega

/-- The prediction that the kernel takes for image `n`, anchor `a`, cell `p` and channel `ch`. -/
def rawAt (c : Dev nD) (n : Fin 16) (a : Fin 3) (p : Fin 5776) (ch : Fin 85) : EReal := raw m c n (column a ch) (gridRow p) (gridCol p)

/-- The first operand's entry is that prediction. -/
theorem x3_raw (c : Dev nD) (n : Fin 16) (a : Fin 3) (p : Fin 5776) (ch : Fin 85) : x3 m c p n (column a ch) = rawAt m c n a p ch :=
  x3_apply m c p n (column a ch)

/-- The kernel's channel 0. -/
theorem kernel_x (c : Dev nD) (n : Fin 16) (a : Fin 3) (p : Fin 5776) :
    cellAt m c n a p 0 = (sigmoid (rawAt m c n a p 0) + FloatOps.sitofp (F := Ideal) .f32 (BitVec.ofNat 32 (p.val % 76))) * stride m c := by
  unfold cellAt
  rw [x3_raw, tab_sg, tab_av, tab_bv, tab_dv, tab_ev, mxy_x]
  simp only [column_mod]
  norm_num
  rw [stride_eq]
  exact cell_centre_x _ _ _ _

/-- The kernel's channel 1. -/
theorem kernel_y (c : Dev nD) (n : Fin 16) (a : Fin 3) (p : Fin 5776) :
    cellAt m c n a p 1 = (sigmoid (rawAt m c n a p 1) + FloatOps.sitofp (F := Ideal) .f32 (BitVec.ofNat 32 (p.val / 76))) * stride m c := by
  unfold cellAt
  rw [x3_raw, tab_sg, tab_av, tab_bv, tab_dv, tab_ev, mxy_y]
  simp only [column_mod]
  norm_num
  rw [stride_eq]
  exact cell_centre_y _ _ _ _

/-- The kernel's channel 2. -/
theorem kernel_w (c : Dev nD) (n : Fin 16) (a : Fin 3) (p : Fin 5776) :
    cellAt m c n a p 2 = Ideal.exp (rawAt m c n a p 2) * anchor m c a 0 := by
  unfold cellAt
  rw [x3_raw, tab_sg, tab_av, tab_bv, tab_dv, tab_ev]
  simp only [column_mod, column_div]
  norm_num
  exact cell_size _ _ _ _

/-- The kernel's channel 3. -/
theorem kernel_h (c : Dev nD) (n : Fin 16) (a : Fin 3) (p : Fin 5776) :
    cellAt m c n a p 3 = Ideal.exp (rawAt m c n a p 3) * anchor m c a 1 := by
  unfold cellAt
  rw [x3_raw, tab_sg, tab_av, tab_bv, tab_dv, tab_ev]
  simp only [column_mod, column_div]
  norm_num
  exact cell_size _ _ _ _

/-- The kernel's channels from 4 on. -/
theorem kernel_prob (c : Dev nD) (n : Fin 16) (a : Fin 3) (p : Fin 5776) (ch : Fin 85) (h : 4 ≤ ch.val) :
    cellAt m c n a p ch = sigmoid (rawAt m c n a p ch) := by
  unfold cellAt
  rw [x3_raw, tab_sg, tab_av, tab_bv, tab_dv, tab_ev]
  simp only [column_mod]
  rw [if_neg (by omega), if_neg (by omega), if_neg (by omega), if_neg (by omega), if_neg (by omega), if_neg (by omega), if_neg (by omega)]
  exact cell_prob _ _ _

/-- A row of the flat result is that of one anchor's one cell. -/
theorem row_split (r : Fin 17328) : ∃ (a : Fin 3) (p : Fin 5776), r = row a p :=
  ⟨⟨r.val / 5776, by have := r.isLt; omega⟩, ⟨r.val % 5776, by omega⟩, Fin.ext (by show r.val = 5776 * (r.val / 5776) + r.val % 5776; omega)⟩

/-- The channel of class `q`. -/
def classChannel (q : Fin 80) : Fin 85 := ⟨5 + q.val, by have := q.isLt; omega⟩

/-- From arguments that agree, the kernel's array and the reference's result hold the same numbers. -/
theorem equation (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (n : Fin 16) (a : Fin 3) (p : Fin 5776) (ch : Fin 85) :
    cellAt m c n a p ch = Cert.ReferenceIdeal.Value.res_main_v56 m' c (ix3 n (row a p) ch) := by
  have hraw : ∀ ch, rawRef m' c n a p ch = rawAt m c n a p ch := fun ch =>
    congrFun h0 (ix4 n (column a ch) (gridRow p) (gridCol p))
  have hanc : ∀ j, anchorRef m' c a j = anchor m c a j := fun j => congrFun h1 (ix2 a j)
  have hst : strideRef m' c = stride m c :=
    (congrArg (fun w => FloatOps.sitofp (F := Ideal) .f32 (strideWord w)) (congrFun h2 ix0)).trans (stride_eq m c).symm
  by_cases c0 : ch = 0
  · subst c0; rw [kernel_x, ← hraw, ← hst]; exact (ref_x m' c n a p).symm
  by_cases c1 : ch = 1
  · subst c1; rw [kernel_y, ← hraw, ← hst]; exact (ref_y m' c n a p).symm
  by_cases c2 : ch = 2
  · subst c2; rw [kernel_w, ← hraw, ← hanc]; exact (ref_wh m' c n a p 0).symm
  by_cases c3 : ch = 3
  · subst c3; rw [kernel_h, ← hraw, ← hanc]; exact (ref_wh m' c n a p 1).symm
  by_cases c4 : ch = 4
  · subst c4; rw [kernel_prob m c n a p 4 (by decide), ← hraw]; exact (ref_conf m' c n a p).symm
  have h5 : 5 ≤ ch.val := by
    by_contra h
    have : ch.val = 0 ∨ ch.val = 1 ∨ ch.val = 2 ∨ ch.val = 3 ∨ ch.val = 4 := by omega
    rcases this with e | e | e | e | e
    exacts [c0 (Fin.ext e), c1 (Fin.ext e), c2 (Fin.ext e), c3 (Fin.ext e), c4 (Fin.ext e)]
  obtain ⟨q, rfl⟩ : ∃ q : Fin 80, ch = classChannel q :=
    ⟨⟨ch.val - 5, by have := ch.isLt; omega⟩, Fin.ext (by show ch.val = 5 + (ch.val - 5); omega)⟩
  rw [kernel_prob m c n a p _ (by show 4 ≤ 5 + q.val; omega), ← hraw]
  exact (ref_cls m' c n a p q).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import proofs.«01_k».proof.Proof.Equation
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference runs, leaves its arguments unchanged, and every semaphore counter ends at zero. -/
theorem reference_frame : quiescent_ReferenceIdeal := by
  intro m g _
  refine θ_run_mono (Cert.ReferenceIdeal.Value.run m g) fun r h => ⟨fun c => (h c).2, ?_⟩
  exact sem_eq_zero_of_no_sems (by decide) r.2

/-- From arguments that agree, the kernel's result, which is its array flattened, is the reference's. -/
theorem results_term (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Pipeline.afterTail₀ Cert.KernelIdeal.cfgs (Cert.KernelIdeal.Gen.dats m) 0 (Cert.KernelIdeal.Gen.V0 m) [Cert.KernelIdeal.Gen.hostOps1] c
        Cert.KernelIdeal.main_v59 = Cert.ReferenceIdeal.Value.res_main_v56 m' c := by
  refine (flat_eq m c).trans (funext fun (j : Cert.KernelIdeal.S16x17328x85.Idx) => ?_)
  obtain ⟨n, r, ch, rfl⟩ : ∃ (n : Fin 16) (r : Fin 17328) (ch : Fin 85), j = ix3 n r ch := ⟨j 0, j 1, j 2, eq_ix3 j⟩
  obtain ⟨a, p, rfl⟩ := row_split r
  exact (flat_apply m c n a p ch).trans (equation m m' c h0 h1 h2 n a p ch)

/-- From arguments that agree, the idealised kernel and the reference both run, leave their arguments unchanged and end with equal
    results. -/
theorem results_equal : algebraic_KernelIdeal_ReferenceIdeal := by
  pair_intro
  · run_from Cert.KernelIdeal.Gen.run_main m g
    exacts [Cert.KernelIdeal.Gen.W_main_arg0 m _ c, Cert.KernelIdeal.Gen.W_main_arg1 m _ c, Cert.KernelIdeal.Gen.W_main_arg2 m _ c]
  · run_from Cert.ReferenceIdeal.Value.run m' g'
    exact (results_term m m' c (hagree c).1 (hagree c).2.1 (hagree c).2.2).symm

/-- All the claims together. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_frame, trivial, results_equal⟩

end Cert.Proof

end
